-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x1024 : Shape := ⟨3, ![3, 4096, 1024]⟩
abbrev S3x4096 : Shape := ⟨2, ![3, 4096]⟩
abbrev S1792x512 : Shape := ⟨2, ![1792, 512]⟩
abbrev S1792x16 : Shape := ⟨2, ![1792, 16]⟩
abbrev S1792 : Shape := ⟨1, ![1792]⟩
abbrev S12288x1024 : Shape := ⟨2, ![12288, 1024]⟩
abbrev S1x1792 : Shape := ⟨2, ![1, 1792]⟩
abbrev S12288x1792 : Shape := ⟨2, ![12288, 1792]⟩
abbrev S1024x1024 : Shape := ⟨2, ![1024, 1024]⟩
abbrev S3x1024 : Shape := ⟨2, ![3, 1024]⟩
abbrev S1024x1792 : Shape := ⟨2, ![1024, 1792]⟩
abbrev S1024x128 : Shape := ⟨2, ![1024, 128]⟩
abbrev S128x512 : Shape := ⟨2, ![128, 512]⟩
abbrev S512x128 : Shape := ⟨2, ![512, 128]⟩
abbrev S128x16 : Shape := ⟨2, ![128, 16]⟩
abbrev S16x128 : Shape := ⟨2, ![16, 128]⟩
abbrev S32x128 : Shape := ⟨2, ![32, 128]⟩
abbrev S64x128 : Shape := ⟨2, ![64, 128]⟩
abbrev S1x128 : Shape := ⟨2, ![1, 128]⟩
abbrev S1x1024 : Shape := ⟨2, ![1, 1024]⟩
abbrev S128x128 : Shape := ⟨2, ![128, 128]⟩
abbrev S1024x256 : Shape := ⟨2, ![1024, 256]⟩
abbrev S1x256 : Shape := ⟨2, ![1, 256]⟩

abbrev nBuf : Space → Nat
  | .hbm => 9
  | .vmem => 12
  | .smem => 0
  | _ => 0

abbrev bufTy : (tb : Table) → Fin (tcTables nBuf tb) → BufTy
  | .hbm, ⟨0, _⟩ => ⟨S3x4096x1024, .i8⟩
  | .hbm, ⟨1, _⟩ => ⟨S3x4096, .f32⟩
  | .hbm, ⟨2, _⟩ => ⟨S1792x512, .i8⟩
  | .hbm, ⟨3, _⟩ => ⟨S1792x16, .i8⟩
  | .hbm, ⟨4, _⟩ => ⟨S1792x16, .i8⟩
  | .hbm, ⟨5, _⟩ => ⟨S1792, .f32⟩
  | .hbm, ⟨6, _⟩ => ⟨S12288x1024, .i8⟩
  | .hbm, ⟨7, _⟩ => ⟨S1x1792, .f32⟩
  | .hbm, ⟨8, _⟩ => ⟨S12288x1792, .bf16⟩
  | .local _ .vmem, ⟨0, _⟩ => ⟨S1024x1024, .i8⟩
  | .local _ .vmem, ⟨1, _⟩ => ⟨S1024x1024, .i8⟩
  | .local _ .vmem, ⟨2, _⟩ => ⟨S3x1024, .f32⟩
  | .local _ .vmem, ⟨3, _⟩ => ⟨S3x1024, .f32⟩
  | .local _ .vmem, ⟨4, _⟩ => ⟨S1792x512, .i8⟩
  | .local _ .vmem, ⟨5, _⟩ => ⟨S1792x16, .i8⟩
  | .local _ .vmem, ⟨6, _⟩ => ⟨S1792x16, .i8⟩
  | .local _ .vmem, ⟨7, _⟩ => ⟨S1x1792, .f32⟩
  | .local _ .vmem, ⟨8, _⟩ => ⟨S1024x1792, .bf16⟩
  | .local _ .vmem, ⟨9, _⟩ => ⟨S1024x1792, .bf16⟩
  | .local _ .vmem, ⟨10, _⟩ => ⟨S1024x1792, .bf16⟩
  | .local _ .vmem, ⟨11, _⟩ => ⟨S1024x128, .f32⟩
  | _, _ => ⟨S3x4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![12], ![false]⟩

def k0_off1 (i : grid0.Coords) : Fin 2 → Nat :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .slt arg0 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg0 c4_i32
  let c0_i32_5 : BitVec 32 := 0#32
  let v16 : BitVec 1 := Scalar.cmpi .ne v15 c0_i32_5
  let v17 : BitVec 1 := Scalar.andi v14 v16
  let v3 : BitVec 32 := Scalar.divsi arg0 c4_i32
  let c1_i32 : BitVec 32 := 1#32
  let v18 : BitVec 32 := Scalar.subi v3 c1_i32
  let v19 : BitVec 32 := Scalar.select v17 v18 v3
  let v20 : Index := Scalar.indexCast v19
  let c0 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x512 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792x16 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x16 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x4096x1024 : Shape := ⟨3, ![3, 4096, 1024]⟩
abbrev S3x4096 : Shape := ⟨2, ![3, 4096]⟩
abbrev S1792x512 : Shape := ⟨2, ![1792, 512]⟩
abbrev S1792x16 : Shape := ⟨2, ![1792, 16]⟩
abbrev S1792 : Shape := ⟨1, ![1792]⟩
abbrev S_ : Shape := ⟨0, ![]⟩
abbrev S1792x512x1 : Shape := ⟨3, ![1792, 512, 1]⟩
abbrev S1792x512x2 : Shape := ⟨3, ![1792, 512, 2]⟩
abbrev S1792x1024 : Shape := ⟨2, ![1792, 1024]⟩
abbrev S1792x16x64 : Shape := ⟨3, ![1792, 16, 64]⟩
abbrev S1792x16x1 : Shape := ⟨3, ![1792, 16, 1]⟩
abbrev S3x4096x1792 : Shape := ⟨3, ![3, 4096, 1792]⟩
abbrev S3x4096x1 : Shape := ⟨3, ![3, 4096, 1]⟩
abbrev S1x1x1792 : Shape := ⟨3, ![1, 1, 1792]⟩
abbrev S12288x1792 : Shape := ⟨2, ![12288, 1792]⟩

abbrev nBuf : Space → Nat
  | .hbm => 41
  | .vmem => 0
  | .smem => 0
  | _ => 0

abbrev bufTy : (tb : Table) → Fin (tcTables nBuf tb) → BufTy
  | .hbm, ⟨0, _⟩ => ⟨S3x4096x1024, .i8⟩
  | .hbm, ⟨1, _⟩ => ⟨S3x4096, .f32⟩
  | .hbm, ⟨2, _⟩ => ⟨S1792x512, .i8⟩
  | .hbm, ⟨3, _⟩ => ⟨S1792x16, .i8⟩
  | .hbm, ⟨4, _⟩ => ⟨S1792x16, .i8⟩
  | .hbm, ⟨5, _⟩ => ⟨S1792, .f32⟩
  | .hbm, ⟨6, _⟩ => ⟨S1792x512, .i32⟩
  | .hbm, ⟨7, _⟩ => ⟨S_, .i32⟩
  | .hbm, ⟨8, _⟩ => ⟨S1792x512, .i32⟩
  | .hbm, ⟨9, _⟩ => ⟨S1792x512, .i32⟩
  | .hbm, ⟨10, _⟩ => ⟨S_, .i32⟩
  | .hbm, ⟨11, _⟩ => ⟨S1792x512, .i32⟩
  | .hbm, ⟨12, _⟩ => ⟨S1792x512, .i32⟩
  | .hbm, ⟨13, _⟩ => ⟨S1792x512x1, .i32⟩
  | .hbm, ⟨14, _⟩ => ⟨S1792x512x1, .i32⟩
  | .hbm, ⟨15, _⟩ => ⟨S1792x512x2, .i32⟩
  | .hbm, ⟨16, _⟩ => ⟨S1792x1024, .i32⟩
  | .hbm, ⟨17, _⟩ => ⟨S1792x1024, .bf16⟩
  | .hbm, ⟨18, _⟩ => ⟨S1792x16x64, .bf16⟩
  | .hbm, ⟨19, _⟩ => ⟨S1792x16, .i32⟩
  | .hbm, ⟨20, _⟩ => ⟨S1792x16, .bf16⟩
  | .hbm, ⟨21, _⟩ => ⟨S1792x16, .i32⟩
  | .hbm, ⟨22, _⟩ => ⟨S1792x16, .bf16⟩
  | .hbm, ⟨23, _⟩ => ⟨S1792x16x1, .bf16⟩
  | .hbm, ⟨24, _⟩ => ⟨S1792x16x64, .bf16⟩
  | .hbm, ⟨25, _⟩ => ⟨S1792x16x64, .bf16⟩
  | .hbm, ⟨26, _⟩ => ⟨S1792x16x1, .bf16⟩
  | .hbm, ⟨27, _⟩ => ⟨S1792x16x64, .bf16⟩
  | .hbm, ⟨28, _⟩ => ⟨S1792x16x64, .bf16⟩
  | .hbm, ⟨29, _⟩ => ⟨S1792x1024, .bf16⟩
  | .hbm, ⟨30, _⟩ => ⟨S3x4096x1024, .i32⟩
  | .hbm, ⟨31, _⟩ => ⟨S3x4096x1024, .bf16⟩
  | .hbm, ⟨32, _⟩ => ⟨S3x4096x1792, .f32⟩
  | .hbm, ⟨33, _⟩ => ⟨S3x4096x1, .f32⟩
  | .hbm, ⟨34, _⟩ => ⟨S3x4096x1792, .f32⟩
  | .hbm, ⟨35, _⟩ => ⟨S3x4096x1792, .f32⟩
  | .hbm, ⟨36, _⟩ => ⟨S1x1x1792, .f32⟩
  | .hbm, ⟨37, _⟩ => ⟨S3x4096x1792, .f32⟩
  | .hbm, ⟨38, _⟩ => ⟨S3x4096x1792, .f32⟩
  | .hbm, ⟨39, _⟩ => ⟨S3x4096x1792, .bf16⟩
  | .hbm, ⟨40, _⟩ => ⟨S12288x1792, .bf16⟩
  | _, _ => ⟨S3x4096x1024, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Proof.Words.lean ====
/-
  The words the kernel builds, and the numbers they are read as: a word of two 16-bit halves, each the pattern of
  128 plus a four-bit code; and a word whose two halves are the pattern of one number from 0 to 255.
-/
module

public import Idealize.ShloMosaic.Lib.Pointwise
public import Idealize.ShloMosaic.Lib.BitcastPair

@[expose] public section

noncomputable section

namespace Cert.W4

open Idealize.ShloMosaic

/-- The word holding, in its low half, 128 plus the low four bits of `v` and, in its high half, 128 plus the next four. -/
def pairWord (v : BitVec 32) : BitVec 32 := ((v &&& 15#32) ||| ((v &&& 240#32) <<< 12)) ||| 1124090624#32

/-- The word of a number: the pattern of the number as a 32-bit float, its high half copied into its low half. -/
def scaleBits (x : BitVec 32) : BitVec 32 :=
  if x = 0#32 then 0#32 else ((157#32 - IntOp.ctlz x) <<< 23) + (x <<< ((IntOp.ctlz x - 8#32).toNat))

def scaleWord (x : BitVec 32) : BitVec 32 := scaleBits x ||| (scaleBits x >>> 16)

/-- Two bytes side by side in one word: the first is the word's low byte. -/
theorem join_and (a b : BitVec 8) :
    (a.setWidth 32 ||| (b.setWidth 32 <<< 8)) &&& 255#32 = a.setWidth 32 := by
  apply BitVec.eq_of_getLsbD_eq
  intro i hi
  interval_cases i <;> simp

/-- … and the second is the word shifted down by eight. -/
theorem join_shift (a b : BitVec 8) :
    (a.setWidth 32 ||| (b.setWidth 32 <<< 8)).sshiftRight 8 &&& 255#32 = b.setWidth 32 := by
  apply BitVec.eq_of_getLsbD_eq
  intro i hi
  interval_cases i <;> simp [BitVec.getElem_sshiftRight, BitVec.getLsbD_sshiftRight]

/-- The pair of codes depends on the low byte alone. -/
theorem pairWord_low (v : BitVec 32) : pairWord v = pairWord (v &&& 255#32) := by
  unfold pairWord
  rw [BitVec.and_assoc, BitVec.and_assoc]
  rfl

/-- Every byte is the word of a number below 256. -/
theorem byte_eq (a : BitVec 8) : a = BitVec.ofNat 8 (⟨a.toNat, a.isLt⟩ : Fin 256).val := by simp

/-- The four-bit code of a byte: the low one for `p = 0`, the high one otherwise. -/
def nib (a : BitVec 8) (p : ℕ) : ℕ := if p = 0 then a.toNat % 16 else a.toNat / 16

theorem pair_half_fin : ∀ a : Fin 256, ∀ p : Fin 2,
    (pairWord ((BitVec.ofNat 8 a.val).setWidth 32)).extractLsb' (16 * p.val) 16
      = BitVec.ofNat 16 (0x4300 + nib (BitVec.ofNat 8 a.val) p.val) ∧ nib (BitVec.ofNat 8 a.val) p.val < 16 := by
  decide +kernel

/-- Half `p` of the pair word of a byte is the pattern 0x4300 plus code `p` of the byte. -/
theorem pair_half (a : BitVec 8) (p : ℕ) (hp : p < 2) :
    (pairWord (a.setWidth 32)).extractLsb' (16 * p) 16 = BitVec.ofNat 16 (0x4300 + nib a p) ∧ nib a p < 16 := by
  have := pair_half_fin ⟨a.toNat, a.isLt⟩ ⟨p, hp⟩
  rwa [← byte_eq a] at this

/-- A normal pattern read as a number: significand times the power of two of its exponent. -/
theorem ieee_bf16 (b : BitVec 16) (E T : ℕ) (hs : (b.extractLsb' 15 1 == 1#1) = false)
    (hE : (b.extractLsb' 7 8).toNat = E) (hT : (b.extractLsb' 0 7).toNat = T) (h0 : E ≠ 0) (h1 : E ≠ 255) :
    Ideal.ofBits .bf16 b = (((2 ^ 7 + T : ℕ) * (2 : ℝ) ^ ((E : ℤ) - 134) : ℝ) : EReal) := by
  unfold Ideal.ofBits Ideal.ieee
  dsimp only
  rw [show 8 + 7 = 15 from rfl, hs, hE, hT, if_neg (by simpa using h1), if_neg h0]
  congr 2
  · simp
  · congr 1
    norm_num
    ring

theorem code_fin : ∀ n : Fin 16,
    ((BitVec.ofNat 16 (0x4300 + n.val)).extractLsb' 15 1 == 1#1) = false
      ∧ ((BitVec.ofNat 16 (0x4300 + n.val)).extractLsb' 7 8).toNat = 134
      ∧ ((BitVec.ofNat 16 (0x4300 + n.val)).extractLsb' 0 7).toNat = n.val := by
  decide +kernel

/-- The pattern 0x4300 plus a code below 16 is the number 128 plus the code. -/
theorem ofBits_code (n : ℕ) (hn : n < 16) :
    Ideal.ofBits .bf16 (BitVec.ofNat 16 (0x4300 + n)) = (((128 + n : ℕ) : ℝ) : EReal) := by
  obtain ⟨hs, hE, hT⟩ := code_fin ⟨n, hn⟩
  rw [ieee_bf16 _ 134 n hs hE hT (by decide) (by decide)]
  norm_num

/-- … so the constant it is lessened by is 128, and the difference is the code. -/
theorem code_sub (n : ℕ) (hn : n < 16) :
    Ideal.ofBits .bf16 (BitVec.ofNat 16 (0x4300 + n)) - Ideal.ofBits .bf16 0x4300#16 = ((n : ℝ) : EReal) := by
  rw [ofBits_code n hn, show (0x4300#16 : BitVec 16) = BitVec.ofNat 16 (0x4300 + 0) from rfl, ofBits_code 0 (by decide),
    ← EReal.coe_sub]
  rw [Nat.cast_add, Nat.add_zero, add_sub_cancel_left]

/-- The pattern of `n`, the high half of its 32-bit float: sign, exponent and significand. -/
theorem scale_fin : ∀ n : Fin 256, ∀ p : Fin 2, n.val ≠ 0 →
    let b := (scaleWord ((BitVec.ofNat 8 n.val).setWidth 32)).extractLsb' (16 * p.val) 16
    (b.extractLsb' 15 1 == 1#1) = false
      ∧ 127 ≤ (b.extractLsb' 7 8).toNat ∧ (b.extractLsb' 7 8).toNat ≤ 134
      ∧ 2 ^ 7 + (b.extractLsb' 0 7).toNat = n.val * 2 ^ (134 - (b.extractLsb' 7 8).toNat) := by
  decide +kernel

/-- Either half of the scale word of a byte denotes the byte's number. -/
theorem ofBits_scale (a : BitVec 8) (p : ℕ) (hp : p < 2) :
    Ideal.ofBits .bf16 ((scaleWord (a.setWidth 32)).extractLsb' (16 * p) 16) = ((a.toNat : ℝ) : EReal) := by
  by_cases h0 : a.toNat = 0
  · have ha : a = 0#8 := BitVec.eq_of_toNat_eq h0
    subst ha
    have : (scaleWord ((0#8).setWidth 32)).extractLsb' (16 * p) 16 = 0#16 := by
      have h : ∀ p : Fin 2, (scaleWord ((0#8).setWidth 32)).extractLsb' (16 * p.val) 16 = 0#16 := by decide +kernel
      exact h ⟨p, hp⟩
    rw [this]
    simp [Ideal.ofBits, Ideal.ieee]
  · obtain ⟨hs, h1, h2, hm⟩ := scale_fin ⟨a.toNat, a.isLt⟩ ⟨p, hp⟩ h0
    rw [← byte_eq a] at hs h1 h2 hm
    dsimp only at hs h1 h2 hm
    generalize (scaleWord (a.setWidth 32)).extractLsb' (16 * p) 16 = b at *
    rw [ieee_bf16 b _ _ hs rfl rfl (by omega) (by omega), hm]
    obtain ⟨d, hd⟩ : ∃ d, (b.extractLsb' 7 8).toNat = 134 - d ∧ d ≤ 7 := ⟨134 - (b.extractLsb' 7 8).toNat, by omega, by omega⟩
    rw [hd.1, show 134 - (134 - d) = d by omega, show (((134 - d : ℕ) : ℤ) - 134) = -(d : ℤ) by omega]
    congr 1
    push_cast
    rw [zpow_neg, zpow_natCast, mul_assoc, mul_inv_cancel₀ (by positivity), mul_one]

end Cert.W4

end
-- ==== Proof.Block.lean ====
/-
  One 64×128 block of the dequantised weight as the kernel computes it, as an expression over the loaded rows, and its
  value at an index.
-/
module

public import proofs.«01_k».proof.Proof.Gen.KernelIdeal
public import proofs.«01_k».proof.Proof.Words

@[expose] public section

set_option maxRecDepth 16384

noncomputable section

namespace Cert.W4

open Idealize.ShloMosaic Cert.KernelIdeal Cert.KernelIdeal.Gen

variable {F : FTy → Type} [FloatOps F]

/-- Two slabs of packed rows side by side in words, transposed. -/
def wordsOf (a b : Vec F S128x512 .i8) : IVec S512x128 32 :=
  transpose S512x128 [1, 0]
    (ori (extui 32 a natLt_8_32) (shli (extui 32 b natLt_8_32) (broadcast S128x512 8#32)))
    transposes_S128x512_p1_0_S512x128

/-- The pair words of the slab that a shift by `sh` selects. -/
def pairsOf (sh : BitVec 32) (w : IVec S512x128 32) : IVec S512x128 32 :=
  ori (ori (andi (shrsi w (broadcast S512x128 sh)) (broadcast S512x128 15#32))
      (shli (andi (shrsi w (broadcast S512x128 sh)) (broadcast S512x128 240#32)) (broadcast S512x128 12#32)))
    (broadcast S512x128 1124090624#32)

/-- The 32-bit float patterns of a slab of group numbers, transposed (the number zero's pattern is zero). -/
def bitsOf (s : Vec F S128x16 .i8) : IVec S16x128 32 :=
  select (cmpi .eq (transpose S16x128 [1, 0] (extui 32 s natLt_8_32) transposes_S128x16_p1_0_S16x128) (broadcast S16x128 0#32))
    (broadcast S16x128 0#32)
    (addi
      (shli (subi (broadcast S16x128 157#32)
          (ctlz (transpose S16x128 [1, 0] (extui 32 s natLt_8_32) transposes_S128x16_p1_0_S16x128)))
        (broadcast S16x128 23#32))
      (shli (transpose S16x128 [1, 0] (extui 32 s natLt_8_32) transposes_S128x16_p1_0_S16x128)
        (subi (ctlz (transpose S16x128 [1, 0] (extui 32 s natLt_8_32) transposes_S128x16_p1_0_S16x128))
          (broadcast S16x128 8#32))))

/-- The scale words of a slab of group numbers. -/
def scalesOf (s : Vec F S128x16 .i8) : IVec S16x128 32 :=
  ori (bitsOf s) (shrui (bitsOf s) (broadcast S16x128 16#32))

theorem pair_slices {g : ℕ} (hg : g < 16) : S512x128.Slices ![32 * g, 0] S32x128 :=
  ⟨rfl, fun a => by
    fin_cases a
    · show 32 * g + 32 ≤ 512; omega
    · show 0 + 128 ≤ 128; omega⟩

theorem scale_slices {g : ℕ} (hg : g < 16) : S16x128.Slices ![g, 0] S1x128 :=
  ⟨rfl, fun a => by
    fin_cases a
    · show g + 1 ≤ 16; omega
    · show 0 + 128 ≤ 128; omega⟩

/-- Row `g` of the scale words as a 64×128 block of numbers. -/
def scaleBlock (g : ℕ) (hg : g < 16) (st : IVec S16x128 32) : FVec F S64x128 .bf16 :=
  bitcastToFloat .bf16 (bitcast S64x128 16
    (broadcastTo S32x128 (shapeCast S1x128 (extractStridedSlice S1x128 ![g, 0] st (scale_slices hg)) shapeCasts_S1x128_S1x128)
      broadcasts_S1x128_S32x128) bitcasts_S32x128_w32_S64x128_w16)

/-- Block `g` of the dequantised weight: the codes less 128, times the scales, less the zero points. -/
def blockOf (g : ℕ) (hg : g < 16) (pr : IVec S512x128 32) (st zt : IVec S16x128 32) : FVec F S64x128 .bf16 :=
  shapeCast S64x128
    (subf (mulf
        (subf (bitcastToFloat .bf16 (bitcast S64x128 16 (extractStridedSlice S32x128 ![32 * g, 0] pr (pair_slices hg))
            bitcasts_S32x128_w32_S64x128_w16))
          (broadcast S64x128 (Scalar.ofBits .bf16 0x4300#16)))
        (scaleBlock g hg st))
      (scaleBlock g hg zt))
    shapeCasts_S64x128_S64x128

/-! ### Values -/

/-- The source row of a reinterpreted element, at this shape. -/
theorem bitcast_block (x : IVec S32x128 32) (r : Fin 64) (l : Fin 128) :
    bitcast S64x128 16 x bitcasts_S32x128_w32_S64x128_w16 (ix2 r l)
      = (x (ix2 (⟨r.val / 2, by omega⟩ : Fin 32) l)).extractLsb' (16 * (r.val % 2)) 16 := by
  rw [bitcast_32_16]
  change BitVec.extractLsb' (16 * (r.val % 2)) 16 _ = _
  congr 1
  refine congrArg x ?_
  funext a
  fin_cases a
  · exact Fin.ext (Shape.Bitcasts.srcIdx_row _ _ _ _ 0 rfl)
  · exact Fin.ext (Shape.Bitcasts.srcIdx_other _ _ _ _ 1 (by decide))

theorem wordsOf_apply (a b : Vec F S128x512 .i8) (p : Fin 512) (l : Fin 128) :
    wordsOf a b (ix2 p l) = (a (ix2 l p)).setWidth 32 ||| ((b (ix2 l p)).setWidth 32 <<< 8) := by
  unfold wordsOf
  pointwise
  rfl

theorem pairsOf_apply0 (w : IVec S512x128 32) (j : S512x128.Idx) :
    pairsOf 0#32 w j = pairWord ((w j).sshiftRight 0) := rfl

theorem pairsOf_apply8 (w : IVec S512x128 32) (j : S512x128.Idx) :
    pairsOf 8#32 w j = pairWord ((w j).sshiftRight 8) := rfl

/-- The slab that half `h` of a tile reads: the first for `h = 0`, else the second. -/
def sel {α : Type} (h : ℕ) (a b : α) : α := if h = 0 then a else b

/-- The pair word at `(p, l)` of half `h` is that of the byte at `(l, p)` of its slab. -/
theorem pairs_words (h : ℕ) (hh : h < 2) (a b : Vec F S128x512 .i8) (p : Fin 512) (l : Fin 128) :
    pairsOf (BitVec.ofNat 32 (8 * h)) (wordsOf a b) (ix2 p l)
      = pairWord ((sel h a b (ix2 l p) : BitVec 8).setWidth 32) := by
  obtain rfl | rfl : h = 0 ∨ h = 1 := by omega
  · refine (pairsOf_apply0 _ _).trans ?_
    rw [wordsOf_apply, pairWord_low, BitVec.sshiftRight_zero, join_and]
    rfl
  · refine (pairsOf_apply8 _ _).trans ?_
    rw [wordsOf_apply, pairWord_low, join_shift]
    rfl

/-- A shift of a byte's word by its leading zeros less eight, and the other shifts, are within the width. -/
theorem scaleBits_fin : ∀ n : Fin 256,
    let x : BitVec 32 := (BitVec.ofNat 8 n.val).setWidth 32
    Scalar.select (IntOp.cmpi .eq x 0#32) 0#32
      (IntOp.addi (IntOp.shli .vector (IntOp.subi 157#32 (IntOp.ctlz x)) 23#32)
        (IntOp.shli .vector x (IntOp.subi (IntOp.ctlz x) 8#32))) = scaleBits x := by
  decide +kernel

theorem bitsOf_apply (s : Vec F S128x16 .i8) (g : Fin 16) (l : Fin 128) :
    bitsOf s (ix2 g l) = scaleBits ((s (ix2 l g) : BitVec 8).setWidth 32) := by
  have h := scaleBits_fin ⟨(s (ix2 l g) : BitVec 8).toNat, (s (ix2 l g) : BitVec 8).isLt⟩
  rw [← byte_eq] at h
  rw [← h]
  unfold bitsOf
  pointwise

theorem scalesOf_apply (s : Vec F S128x16 .i8) (g : Fin 16) (l : Fin 128) :
    scalesOf s (ix2 g l) = scaleWord ((s (ix2 l g) : BitVec 8).setWidth 32) := by
  unfold scaleWord
  rw [← bitsOf_apply s g l]
  rfl

/-- A scale block's value: the number of lane `l` in group `g`, whatever the row. -/
theorem scaleBlock_apply (g : ℕ) (hg : g < 16) (s : Vec Ideal S128x16 .i8) (r : Fin 64) (l : Fin 128) :
    scaleBlock (F := Ideal) g hg (scalesOf s) (ix2 r l)
      = (((s (ix2 l (⟨g, hg⟩ : Fin 16)) : BitVec 8).toNat : ℝ) : EReal) := by
  rw [← ofBits_scale _ (r.val % 2) (Nat.mod_lt _ (by decide)), ← scalesOf_apply]
  unfold scaleBlock
  show Ideal.ofBits .bf16 (bitcast S64x128 16 _ _ (ix2 r l)) = _
  rw [bitcast_block]
  congr 2
  pointwise

/-- A dequantised block's value at row `r`, lane `l`: code times scale less zero point. -/
theorem blockOf_apply (g : ℕ) (hg : g < 16) (h : ℕ) (hh : h < 2) (a b : Vec Ideal S128x512 .i8)
    (s z : Vec Ideal S128x16 .i8) (r : Fin 64) (l : Fin 128) :
    blockOf (F := Ideal) g hg (pairsOf (BitVec.ofNat 32 (8 * h)) (wordsOf a b)) (scalesOf s) (scalesOf z) (ix2 r l)
      = ((nib (sel h a b (ix2 l (⟨32 * g + r.val / 2, by omega⟩ : Fin 512)) : BitVec 8) (r.val % 2) : ℝ) : EReal)
          * (((s (ix2 l (⟨g, hg⟩ : Fin 16)) : BitVec 8).toNat : ℝ) : EReal)
        - (((z (ix2 l (⟨g, hg⟩ : Fin 16)) : BitVec 8).toNat : ℝ) : EReal) := by
  rw [← scaleBlock_apply g hg s r l, ← scaleBlock_apply g hg z r l]
  have hb := pair_half (sel h a b (ix2 l (⟨32 * g + r.val / 2, by omega⟩ : Fin 512)) : BitVec 8) (r.val % 2)
    (Nat.mod_lt _ (by decide))
  rw [← code_sub _ hb.2, ← hb.1, ← pairs_words h hh a b (⟨32 * g + r.val / 2, by omega⟩ : Fin 512) l]
  unfold blockOf
  rw [shapeCast_self]
  show (Ideal.ofBits .bf16 (bitcast S64x128 16 _ _ (ix2 r l)) - _) * _ - _ = _
  rw [bitcast_block]
  have hp : extractStridedSlice S32x128 ![32 * g, 0] (pairsOf (BitVec.ofNat 32 (8 * h)) (wordsOf a b)) (pair_slices hg)
      (ix2 (⟨r.val / 2, by omega⟩ : Fin 32) l)
      = pairsOf (BitVec.ofNat 32 (8 * h)) (wordsOf a b) (ix2 (⟨32 * g + r.val / 2, by omega⟩ : Fin 512) l) := by
    pointwise
  rw [hp]
  rfl

end Cert.W4

end
-- ==== Proof.Scratch.lean ====
/-
  The 224 blocks the kernel stores into its weight scratch at the first grid point, as one family, and the value of the
  scratch at an index.
-/
module

public import proofs.«01_k».proof.Proof.Gen.KernelIdeal.Value
public import proofs.«01_k».proof.Proof.Block
public import Idealize.ShloMosaic.Lib.Pipeline.ValueKit

@[expose] public section

set_option maxRecDepth 16384

noncomputable section

namespace Cert.W4

open Idealize.ShloMosaic Idealize.ShloMosaic.Tactic Cert.KernelIdeal Cert.KernelIdeal.Gen

variable {F : FTy → Type} [FloatOps F]

theorem packed_inb {o : ℕ} (h : o + 128 ≤ 1792) : ∀ a, (![o, 0] : Fin 2 → ℕ) a + S128x512.size a ≤ S1792x512.size a :=
  fun a => by
    fin_cases a
    · exact h
    · show 0 + 512 ≤ 512; omega

theorem group_inb {o : ℕ} (h : o + 128 ≤ 1792) : ∀ a, (![o, 0] : Fin 2 → ℕ) a + S128x16.size a ≤ S1792x16.size a :=
  fun a => by
    fin_cases a
    · exact h
    · show 0 + 16 ≤ 16; omega

theorem block_inb {g n : ℕ} (hg : g < 16) (h : n + 128 ≤ 1792) :
    ∀ a, (![64 * g, n] : Fin 2 → ℕ) a + S64x128.size a ≤ S1024x1792.size a :=
  fun a => by
    fin_cases a
    · show 64 * g + 64 ≤ 1024; omega
    · exact h

/-- The 128 packed rows from `o` on. -/
def packedRows (arg3 : Memref sig .tc .vmem S1792x512 .i8) (harg3 : arg3.IsWhole) (x2 : Vec F S1792x512 .i8)
    (o : ℕ) (h : o + 128 ≤ 1792) : Vec F S128x512 .i8 :=
  View.readAt (Elt F) arg3.view (Rect.unit (s := S1792x512) ![o, 0] S128x512.size (packed_inb h)).toLoadRect (harg3.unread x2)

/-- The 128 rows of group numbers from `o` on. -/
def groupRows (arg4 : Memref sig .tc .vmem S1792x16 .i8) (harg4 : arg4.IsWhole) (x3 : Vec F S1792x16 .i8)
    (o : ℕ) (h : o + 128 ≤ 1792) : Vec F S128x16 .i8 :=
  View.readAt (Elt F) arg4.view (Rect.unit (s := S1792x16) ![o, 0] S128x16.size (group_inb h)).toLoadRect (harg4.unread x3)

section
variable (arg3 : Memref sig .tc .vmem S1792x512 .i8) (harg3 : arg3.IsWhole)
  (arg4 : Memref sig .tc .vmem S1792x16 .i8) (harg4 : arg4.IsWhole)
  (arg5 : Memref sig .tc .vmem S1792x16 .i8) (harg5 : arg5.IsWhole)
  (x2 : Vec F S1792x512 .i8) (x3 x4 : Vec F S1792x16 .i8)

/-- The block stored for group `g` of half `h` of column tile `T`. -/
def piece (T h g : ℕ) (hT : T < 7) (hh : h < 2) (hg : g < 16) : View.Piece (Elt F) S1024x1792 .bf16 :=
  ⟨Rect.unit (s := S1024x1792) ![64 * g, 256 * T + 128 * h] S64x128.size (block_inb hg (by omega)),
    blockOf (F := F) g hg
      (pairsOf (BitVec.ofNat 32 (8 * h))
        (wordsOf (packedRows arg3 harg3 x2 (256 * T) (by omega)) (packedRows arg3 harg3 x2 (256 * T + 128) (by omega))))
      (scalesOf (groupRows arg4 harg4 x3 (256 * T + 128 * h) (by omega)))
      (scalesOf (groupRows arg5 harg5 x4 (256 * T + 128 * h) (by omega)))⟩

/-- The blocks, the last stored first: column tiles, in them halves, in them groups. -/
def pieces : List (View.Piece (Elt F) S1024x1792 .bf16) :=
  (List.finRange 224).reverse.map fun n =>
    piece arg3 harg3 arg4 harg4 arg5 harg5 x2 x3 x4 (n.val / 32) (n.val / 16 % 2) (n.val % 16)
      (by omega) (Nat.mod_lt _ (by decide)) (Nat.mod_lt _ (by decide))

/-- The place of a block's element in the scratch. -/
theorem piece_emb (T h g : ℕ) (hT : T < 7) (hh : h < 2) (hg : g < 16) (r : Fin 64) (l : Fin 128) :
    (piece (F := F) arg3 harg3 arg4 harg4 arg5 harg5 x2 x3 x4 T h g hT hh hg).1.emb (ix2 r l)
      = (ix2 (⟨64 * g + r.val, by omega⟩ : Fin 1024) (⟨256 * T + 128 * h + l.val, by omega⟩ : Fin 1792) : S1024x1792.Idx) := by
  funext a
  refine Fin.ext ((ValueKit.rect_emb_unit_val (s := S1024x1792) ![64 * g, 256 * T + 128 * h] S64x128.size
    (block_inb hg (by omega)) (ix2 r l) a).trans ?_)
  fin_cases a <;> rfl
end

/-- The first grid point's run stores just these blocks. -/
theorem run_pieces (c : Dev nD) (i : grid0.Coords) (arg1 : Memref sig .tc .vmem S1024x1024 .i8) (harg1 : arg1.IsWhole) (arg2 : Memref sig .tc .vmem S3x1024 .f32) (harg2 : arg2.IsWhole) (arg3 : Memref sig .tc .vmem S1792x512 .i8) (harg3 : arg3.IsWhole) (arg4 : Memref sig .tc .vmem S1792x16 .i8) (harg4 : arg4.IsWhole) (arg5 : Memref sig .tc .vmem S1792x16 .i8) (harg5 : arg5.IsWhole) (arg6 : Memref sig .tc .vmem S1x1792 .f32) (harg6 : arg6.IsWhole) (arg7 : Memref sig .tc .vmem S1024x1792 .bf16) (harg7 : arg7.IsWhole) (arg8 : Memref sig .tc .vmem S1024x1792 .bf16) (harg8 : arg8.IsWhole) (arg9 : Memref sig .tc .vmem S1024x128 .f32) (harg9 : arg9.IsWhole) (hc0 : cond0_0 i)
    (x0 : Vec F S1024x1024 .i8) (x1 : Vec F S3x1024 .f32) (x2 : Vec F S1792x512 .i8) (x3 : Vec F S1792x16 .i8) (x4 : Vec F S1792x16 .i8) (x5 : Vec F S1x1792 .f32) :
    (kernelRun0_A c i arg1 harg1 arg2 harg2 arg3 harg3 arg4 harg4 arg5 harg5 arg6 harg6 arg7 harg7 arg8 harg8 arg9 harg9 hc0 x0 x1 x2 x3 x4 x5).2.1
      = pieces arg3 harg3 arg4 harg4 arg5 harg5 x2 x3 x4 := by
  sl_kernel_rfl

/-! ### The value of the scratch -/

/-- The dequantised weight at inner index `k` and output column `n`: code times group scale less group zero point. -/
def wVal (x2 : Vec Ideal S1792x512 .i8) (x3 x4 : Vec Ideal S1792x16 .i8) (k : Fin 1024) (n : Fin 1792) : EReal :=
  ((nib (x2 (ix2 n (⟨k.val / 2, by omega⟩ : Fin 512)) : BitVec 8) (k.val % 2) : ℝ) : EReal)
      * (((x3 (ix2 n (⟨k.val / 64, by omega⟩ : Fin 16)) : BitVec 8).toNat : ℝ) : EReal)
    - (((x4 (ix2 n (⟨k.val / 64, by omega⟩ : Fin 16)) : BitVec 8).toNat : ℝ) : EReal)

theorem packedRows_apply (arg3 : Memref sig .tc .vmem S1792x512 .i8) (harg3 : arg3.IsWhole) (x2 : Vec F S1792x512 .i8)
    (o : ℕ) (h : o + 128 ≤ 1792) (l : Fin 128) (p : Fin 512) :
    packedRows arg3 harg3 x2 o h (ix2 l p) = x2 (ix2 (⟨o + l.val, by omega⟩ : Fin 1792) p) := by
  unfold packedRows
  rw [View.readAt_eq_ld, harg3.read_unread]
  pointwise

theorem groupRows_apply (arg4 : Memref sig .tc .vmem S1792x16 .i8) (harg4 : arg4.IsWhole) (x3 : Vec F S1792x16 .i8)
    (o : ℕ) (h : o + 128 ≤ 1792) (l : Fin 128) (g : Fin 16) :
    groupRows arg4 harg4 x3 o h (ix2 l g) = x3 (ix2 (⟨o + l.val, by omega⟩ : Fin 1792) g) := by
  unfold groupRows
  rw [View.readAt_eq_ld, harg4.read_unread]
  pointwise

section
variable (arg3 : Memref sig .tc .vmem S1792x512 .i8) (harg3 : arg3.IsWhole)
  (arg4 : Memref sig .tc .vmem S1792x16 .i8) (harg4 : arg4.IsWhole)
  (arg5 : Memref sig .tc .vmem S1792x16 .i8) (harg5 : arg5.IsWhole)
  (x2 : Vec Ideal S1792x512 .i8) (x3 x4 : Vec Ideal S1792x16 .i8)

/-- A block's value is the dequantised weight at its place in the scratch. -/
theorem piece_apply (T h g : ℕ) (hT : T < 7) (hh : h < 2) (hg : g < 16) (r : Fin 64) (l : Fin 128) :
    (piece (F := Ideal) arg3 harg3 arg4 harg4 arg5 harg5 x2 x3 x4 T h g hT hh hg).2 (ix2 r l)
      = wVal x2 x3 x4 (⟨64 * g + r.val, by omega⟩ : Fin 1024) (⟨256 * T + 128 * h + l.val, by omega⟩ : Fin 1792) := by
  refine (blockOf_apply g hg h hh _ _ _ _ r l).trans ?_
  unfold wVal
  have hs : ∀ p : Fin 512, sel h (packedRows (F := Ideal) arg3 harg3 x2 (256 * T) (by omega))
      (packedRows (F := Ideal) arg3 harg3 x2 (256 * T + 128) (by omega)) (ix2 l p)
      = x2 (ix2 (⟨256 * T + 128 * h + l.val, by omega⟩ : Fin 1792) p) := by
    intro p
    obtain rfl | rfl : h = 0 ∨ h = 1 := by omega
    · exact packedRows_apply arg3 harg3 x2 (256 * T) (by omega) l p
    · exact packedRows_apply arg3 harg3 x2 (256 * T + 128) (by omega) l p
  rw [hs, groupRows_apply, groupRows_apply]
  have h1 : (⟨32 * g + r.val / 2, by omega⟩ : Fin 512) = ⟨(64 * g + r.val) / 2, by omega⟩ := Fin.ext (by dsimp only; omega)
  have h2 : (⟨g, hg⟩ : Fin 16) = ⟨(64 * g + r.val) / 64, by omega⟩ := Fin.ext (by dsimp only; omega)
  have h3 : r.val % 2 = (64 * g + r.val) % 2 := by omega
  rw [h1, h2, h3]

/-- The blocks read together are the dequantised weight. -/
theorem canon_pieces (y : S1024x1792.Idx) :
    View.canon (pieces (F := Ideal) arg3 harg3 arg4 harg4 arg5 harg5 x2 x3 x4) y = wVal x2 x3 x4 (y 0) (y 1) := by
  refine View.canon_apply_of_pieces (S := S1024x1792) (fun y => wVal x2 x3 x4 (y 0) (y 1)) _ ?_ y
    (View.cover_of_tiledL (pieces (F := Ideal) arg3 harg3 arg4 harg4 arg5 harg5 x2 x3 x4) S64x128.size (by sl_kernel_rfl) y)
  intro p hp x
  obtain ⟨n, -, rfl⟩ := List.mem_map.mp hp
  have hx : x = ix2 (x 0) (x 1) := by
    funext a
    fin_cases a <;> rfl
  rw [hx]
  refine (piece_apply arg3 harg3 arg4 harg4 arg5 harg5 x2 x3 x4 _ _ _ _ _ _ (x 0) (x 1)).trans ?_
  have he := piece_emb (F := Ideal) arg3 harg3 arg4 harg4 arg5 harg5 x2 x3 x4 (n.val / 32) (n.val / 16 % 2) (n.val % 16)
    (by omega) (Nat.mod_lt _ (by decide)) (Nat.mod_lt _ (by decide)) (x 0) (x 1)
  exact (congrArg (fun y : S1024x1792.Idx => wVal x2 x3 x4 (y 0) (y 1)) he).symm
end

end Cert.W4

end
-- ==== Proof.Output.lean ====
/-
  The output block a grid point stores, as one family of column tiles, and its value at an index.
-/
module

public import proofs.«01_k».proof.Proof.Scratch

@[expose] public section

set_option maxRecDepth 16384

noncomputable section

namespace Cert.W4

open Idealize.ShloMosaic Idealize.ShloMosaic.Tactic Cert.KernelIdeal Cert.KernelIdeal.Gen

variable {F : FTy → Type} [FloatOps F]

/-! ### The column of row scales -/

theorem lane_slices {j : ℕ} (hj : j < 8) : S1x1024.Slices ![0, 128 * j] S1x128 :=
  ⟨rfl, fun a => by
    fin_cases a
    · show 0 + 1 ≤ 1; omega
    · show 128 * j + 128 ≤ 1024; omega⟩

theorem lane_inb {j : ℕ} (hj : j < 8) : ∀ a, (![128 * j, 0] : Fin 2 → ℕ) a + S128x128.size a ≤ S1024x128.size a :=
  fun a => by
    fin_cases a
    · show 128 * j + 128 ≤ 1024; omega
    · show 0 + 128 ≤ 128; omega

/-- Lanes `128 j` to `128 j + 127` of a row, turned into rows of 128 equal lanes. -/
def lanes (j : ℕ) (hj : j < 8) (row : Vec F S1x1024 .f32) : FVec F S128x128 .f32 :=
  shapeCast S128x128
    (transpose S128x128 [1, 0]
      (broadcastTo S128x128 (shapeCast S1x128 (extractStridedSlice S1x128 ![0, 128 * j] row (lane_slices hj)) shapeCasts_S1x128_S1x128)
        broadcasts_S1x128_S128x128) transposes_S128x128_p1_0_S128x128)
    shapeCasts_S128x128_S128x128

/-- The eight stores into the column scratch, the last first. -/
def colPieces (row : Vec F S1x1024 .f32) : List (View.Piece (Elt F) S1024x128 .f32) :=
  (List.finRange 8).reverse.map fun j =>
    ⟨Rect.unit (s := S1024x128) ![128 * j.val, 0] S128x128.size (lane_inb j.isLt), lanes (F := F) j.val j.isLt row⟩

theorem lanes_apply (j : ℕ) (hj : j < 8) (row : Vec F S1x1024 .f32) (r l : Fin 128) :
    lanes j hj row (ix2 r l) = row (ix2 (0 : Fin 1) (⟨128 * j + r.val, by omega⟩ : Fin 1024)) := by
  unfold lanes
  pointwise

/-- The column scratch holds, in every lane of row `R`, the row's element `R`. -/
theorem canon_col (row : Vec F S1x1024 .f32) (y : S1024x128.Idx) :
    View.canon (colPieces (F := F) row) y = row (ix2 (0 : Fin 1) (y 0 : Fin 1024)) := by
  refine View.canon_apply_of_pieces (S := S1024x128) (fun y => row (ix2 (0 : Fin 1) (y 0 : Fin 1024))) _ ?_ y
    (View.cover_of_tiledL (colPieces (F := F) row) S128x128.size (by sl_kernel_rfl) y)
  intro p hp x
  obtain ⟨j, -, rfl⟩ := List.mem_map.mp hp
  have hx : x = ix2 (x 0) (x 1) := by
    funext a
    fin_cases a <;> rfl
  rw [hx]
  refine (lanes_apply j.val j.isLt row (x 0) (x 1)).trans ?_
  have he := ValueKit.rect_emb_unit_val (s := S1024x128) ![128 * j.val, 0] S128x128.size (lane_inb j.isLt)
    (ix2 (x 0) (x 1)) 0
  exact congrArg (fun q : Fin 1024 => row (ix2 (0 : Fin 1) q)) (Fin.ext he.symm)

/-! ### The output tiles -/

theorem tile_inb {T : ℕ} (hT : T < 7) : ∀ a, (![0, 256 * T] : Fin 2 → ℕ) a + S1024x256.size a ≤ S1024x1792.size a :=
  fun a => by
    fin_cases a
    · show 0 + 1024 ≤ 1024; omega
    · show 256 * T + 256 ≤ 1792; omega

theorem cs_inb {T : ℕ} (hT : T < 7) : ∀ a, (![0, 256 * T] : Fin 2 → ℕ) a + S1x256.size a ≤ S1x1792.size a :=
  fun a => by
    fin_cases a
    · show 0 + 1 ≤ 1; omega
    · show 256 * T + 256 ≤ 1792; omega

/-- The rectangle of column tile `T`. -/
abbrev tileRect (T : ℕ) (hT : T < 7) : Rect S1024x1792 := Rect.unit (s := S1024x1792) ![0, 256 * T] S1024x256.size (tile_inb hT)

/-- The column scales of tile `T`. -/
def csLoad (arg6 : Memref sig .tc .vmem S1x1792 .f32) (harg6 : arg6.IsWhole) (x5 : Vec F S1x1792 .f32) (T : ℕ) (hT : T < 7) :
    Vec F S1x256 .f32 :=
  View.readAt (Elt F) arg6.view (Rect.unit (s := S1x1792) ![0, 256 * T] S1x256.size (cs_inb hT)).toLoadRect (harg6.unread x5)

/-- The activations a point loads, as numbers. -/
def lhsLoad (arg1 : Memref sig .tc .vmem S1024x1024 .i8) (harg1 : arg1.IsWhole) (x0 : Vec F S1024x1024 .i8) : FVec F S1024x1024 .bf16 :=
  k0_pay455 (View.readAt (Elt F) arg1.view
    (Rect.unit (s := S1024x1024) ![0, 0] S1024x1024.size inb_S1024x1024_S1024x1024_0_0).toLoadRect (harg1.unread x0))

/-- The row of row scales a point loads. -/
def rowLoad (i : grid0.Coords) (arg2 : Memref sig .tc .vmem S3x1024 .f32) (harg2 : arg2.IsWhole) (x1 : Vec F S3x1024 .f32) : Vec F S1x1024 .f32 :=
  View.readAt (Elt F) arg2.view (Rect.unit (s := S3x1024) (k0_off1 i) S1x1024.size (k0_off1_inb i)).toLoadRect (harg2.unread x1)

/-- The row scales as a column, read back from the column scratch. -/
def colLoad (arg9 : Memref sig .tc .vmem S1024x128 .f32) (row : Vec F S1x1024 .f32) : Vec F S1024x128 .f32 :=
  arg9.view.readCov (colPieces (F := F) row) (Rect.unit (s := S1024x128) ![0, 0] S1024x128.size inb_S1024x128_S1024x128_0_0).toLoadRect

/-- The seven output tiles, the last stored first, over the weight tiles `w`. -/
def outPieces (lhs : FVec F S1024x1024 .bf16) (w : ∀ T : ℕ, T < 7 → Vec F S1024x256 .bf16) (col : Vec F S1024x128 .f32)
    (cs : ∀ T : ℕ, T < 7 → Vec F S1x256 .f32) : List (View.Piece (Elt F) S1024x1792 .bf16) :=
  (List.finRange 7).reverse.map fun T =>
    ⟨tileRect T.val T.isLt, k0_pay2 (F := F) lhs (w T.val T.isLt) col (cs T.val T.isLt)⟩

/-- The first point's output tiles, over the weight blocks it has just stored. -/
theorem run_out_A (c : Dev nD) (i : grid0.Coords) (arg1 : Memref sig .tc .vmem S1024x1024 .i8) (harg1 : arg1.IsWhole) (arg2 : Memref sig .tc .vmem S3x1024 .f32) (harg2 : arg2.IsWhole) (arg3 : Memref sig .tc .vmem S1792x512 .i8) (harg3 : arg3.IsWhole) (arg4 : Memref sig .tc .vmem S1792x16 .i8) (harg4 : arg4.IsWhole) (arg5 : Memref sig .tc .vmem S1792x16 .i8) (harg5 : arg5.IsWhole) (arg6 : Memref sig .tc .vmem S1x1792 .f32) (harg6 : arg6.IsWhole) (arg7 : Memref sig .tc .vmem S1024x1792 .bf16) (harg7 : arg7.IsWhole) (arg8 : Memref sig .tc .vmem S1024x1792 .bf16) (harg8 : arg8.IsWhole) (arg9 : Memref sig .tc .vmem S1024x128 .f32) (harg9 : arg9.IsWhole) (hc0 : cond0_0 i)
    (x0 : Vec F S1024x1024 .i8) (x1 : Vec F S3x1024 .f32) (x2 : Vec F S1792x512 .i8) (x3 : Vec F S1792x16 .i8) (x4 : Vec F S1792x16 .i8) (x5 : Vec F S1x1792 .f32) :
    (kernelRun0_A c i arg1 harg1 arg2 harg2 arg3 harg3 arg4 harg4 arg5 harg5 arg6 harg6 arg7 harg7 arg8 harg8 arg9 harg9 hc0 x0 x1 x2 x3 x4 x5).1
      = outPieces (lhsLoad arg1 harg1 x0)
          (fun T hT => arg8.view.readCov (pieces arg3 harg3 arg4 harg4 arg5 harg5 x2 x3 x4) (tileRect T hT).toLoadRect)
          (colLoad arg9 (rowLoad i arg2 harg2 x1)) (csLoad arg6 harg6 x5) := by
  sl_kernel_rfl

/-- Every later point's output tiles, over the weight it finds. -/
theorem run_out_B (c : Dev nD) (i : grid0.Coords) (arg1 : Memref sig .tc .vmem S1024x1024 .i8) (harg1 : arg1.IsWhole) (arg2 : Memref sig .tc .vmem S3x1024 .f32) (harg2 : arg2.IsWhole) (arg3 : Memref sig .tc .vmem S1792x512 .i8) (harg3 : arg3.IsWhole) (arg4 : Memref sig .tc .vmem S1792x16 .i8) (harg4 : arg4.IsWhole) (arg5 : Memref sig .tc .vmem S1792x16 .i8) (harg5 : arg5.IsWhole) (arg6 : Memref sig .tc .vmem S1x1792 .f32) (harg6 : arg6.IsWhole) (arg7 : Memref sig .tc .vmem S1024x1792 .bf16) (harg7 : arg7.IsWhole) (arg8 : Memref sig .tc .vmem S1024x1792 .bf16) (harg8 : arg8.IsWhole) (arg9 : Memref sig .tc .vmem S1024x128 .f32) (harg9 : arg9.IsWhole) (hc0 : ¬cond0_0 i)
    (x0 : Vec F S1024x1024 .i8) (x1 : Vec F S3x1024 .f32) (x2 : Vec F S1792x512 .i8) (x3 : Vec F S1792x16 .i8) (x4 : Vec F S1792x16 .i8) (x5 : Vec F S1x1792 .f32) (xs0 : Vec F S1024x1792 .bf16) :
    (kernelRun0_B c i arg1 harg1 arg2 harg2 arg3 harg3 arg4 harg4 arg5 harg5 arg6 harg6 arg7 harg7 arg8 harg8 arg9 harg9 hc0 x0 x1 x2 x3 x4 x5 xs0).1
      = outPieces (lhsLoad arg1 harg1 x0)
          (fun T hT => View.readAt (Elt F) arg8.view (tileRect T hT).toLoadRect (harg8.unread xs0))
          (colLoad arg9 (rowLoad i arg2 harg2 x1)) (csLoad arg6 harg6 x5) := by
  sl_kernel_rfl

/-! ### Values -/

theorem csLoad_apply (arg6 : Memref sig .tc .vmem S1x1792 .f32) (harg6 : arg6.IsWhole) (x5 : Vec F S1x1792 .f32) (T : ℕ)
    (hT : T < 7) (l : Fin 256) :
    csLoad arg6 harg6 x5 T hT (ix2 (0 : Fin 1) l) = x5 (ix2 (0 : Fin 1) (⟨256 * T + l.val, by omega⟩ : Fin 1792)) := by
  unfold csLoad
  rw [View.readAt_eq_ld, harg6.read_unread]
  pointwise

theorem lhsLoad_apply (arg1 : Memref sig .tc .vmem S1024x1024 .i8) (harg1 : arg1.IsWhole) (x0 : Vec Ideal S1024x1024 .i8)
    (R k : Fin 1024) :
    lhsLoad (F := Ideal) arg1 harg1 x0 (ix2 R k) = (((x0 (ix2 R k) : BitVec 8).toInt : ℝ) : EReal) := by
  unfold lhsLoad
  rw [View.readAt_eq_ld, harg1.read_unread, View.ld_unit_lit _ _ (by decide)]
  pointwise [k0_pay455]
  rfl

theorem colLoad_apply (arg9 : Memref sig .tc .vmem S1024x128 .f32) (row : Vec F S1x1024 .f32) (R : Fin 1024) (l : Fin 128) :
    colLoad arg9 row (ix2 R l) = row (ix2 (0 : Fin 1) R) := by
  unfold colLoad
  rw [View.readCov_eq_canon']
  refine (canon_col row _).trans ?_
  refine congrArg (fun q : Fin 1024 => row (ix2 (0 : Fin 1) q)) (Fin.ext ?_)
  show 0 + 1 * R.val = R.val
  omega

/-- The offset of the loaded row: four points to a row. -/
theorem off_row (i : grid0.Coords) : k0_off1 i = ![(i 0).val / 4, 0] := by
  have h : (i 0).val < 12 := (i 0).isLt
  unfold k0_off1
  generalize (i 0).val = n at h
  revert n
  decide +kernel

theorem rowLoad_apply (i : grid0.Coords) (arg2 : Memref sig .tc .vmem S3x1024 .f32) (harg2 : arg2.IsWhole)
    (x1 : Vec F S3x1024 .f32) (R : Fin 1024) :
    rowLoad i arg2 harg2 x1 (ix2 (0 : Fin 1) R)
      = x1 (ix2 (⟨(i 0).val / 4, by have h : (i 0).val < 12 := (i 0).isLt; omega⟩ : Fin 3) R) := by
  unfold rowLoad
  rw [View.readAt_eq_ld, harg2.read_unread]
  refine congrArg x1 ?_
  funext a
  refine Fin.ext ?_
  fin_cases a
  · show k0_off1 i 0 + 1 * 0 = (i 0).val / 4
    rw [off_row]; rfl
  · show k0_off1 i 1 + 1 * R.val = R.val
    rw [off_row]
    show 0 + 1 * R.val = R.val
    omega

/-- A tile's value: the product's sum, times the row's scale, times the column's. -/
theorem tile_apply (lhs : FVec Ideal S1024x1024 .bf16) (w : Vec Ideal S1024x256 .bf16) (col : Vec Ideal S1024x128 .f32)
    (cs : Vec Ideal S1x256 .f32) (xr : EReal) (R : Fin 1024) (hcol : ∀ l : Fin 128, col (ix2 R l) = xr) (l : Fin 256) :
    k0_pay2 (F := Ideal) lhs w col cs (ix2 R l)
      = (∑ k : Fin 1024, (lhs (ix2 R k) : EReal) * w (ix2 k l)) * xr * cs (ix2 (0 : Fin 1) l) := by
  pointwise [k0_pay2]
  simp only [hcol, dite_eq_ite, ite_self]

/-- The block a point leaves: at row `R` and column `n`, the sum over the inner axis, times both scales. -/
def outVal (x0 : Vec Ideal S1024x1024 .i8) (xr : Fin 1024 → EReal) (W : Fin 1024 → Fin 1792 → EReal) (x5 : Vec Ideal S1x1792 .f32)
    (R : Fin 1024) (n : Fin 1792) : EReal :=
  (∑ k : Fin 1024, (((x0 (ix2 R k) : BitVec 8).toInt : ℝ) : EReal) * W k n) * xr R * x5 (ix2 (0 : Fin 1) n)

/-- The place of a tile's element in the block. -/
theorem tile_emb (T : ℕ) (hT : T < 7) (R : Fin 1024) (l : Fin 256) :
    (tileRect T hT).emb (ix2 R l) = (ix2 R (⟨256 * T + l.val, by omega⟩ : Fin 1792) : S1024x1792.Idx) := by
  funext a
  refine Fin.ext ((ValueKit.rect_emb_unit_val (s := S1024x1792) ![0, 256 * T] S1024x256.size (tile_inb hT) (ix2 R l) a).trans ?_)
  fin_cases a
  · exact Nat.zero_add _
  · rfl

/-- A tile's value in terms of what was loaded. -/
theorem tile_value (arg1 : Memref sig .tc .vmem S1024x1024 .i8) (harg1 : arg1.IsWhole)
    (arg6 : Memref sig .tc .vmem S1x1792 .f32) (harg6 : arg6.IsWhole) (arg9 : Memref sig .tc .vmem S1024x128 .f32)
    (x0 : Vec Ideal S1024x1024 .i8) (row : Vec Ideal S1x1024 .f32) (x5 : Vec Ideal S1x1792 .f32)
    (w : ∀ T : ℕ, T < 7 → Vec Ideal S1024x256 .bf16) (W : Fin 1024 → Fin 1792 → EReal)
    (hw : ∀ (T : ℕ) (hT : T < 7) (k : Fin 1024) (l : Fin 256),
      w T hT (ix2 k l) = W k (⟨256 * T + l.val, by omega⟩ : Fin 1792))
    (T : ℕ) (hT : T < 7) (R : Fin 1024) (l : Fin 256) :
    k0_pay2 (F := Ideal) (lhsLoad arg1 harg1 x0) (w T hT) (colLoad arg9 row) (csLoad arg6 harg6 x5 T hT) (ix2 R l)
      = outVal x0 (fun R => row (ix2 (0 : Fin 1) R)) W x5 R (⟨256 * T + l.val, by omega⟩ : Fin 1792) := by
  refine (tile_apply _ _ _ _ (row (ix2 (0 : Fin 1) R)) R (fun l => colLoad_apply arg9 row R l) l).trans ?_
  unfold outVal
  rw [csLoad_apply]
  simp only [hw, lhsLoad_apply]

/-- The tiles read together. -/
theorem canon_out (arg1 : Memref sig .tc .vmem S1024x1024 .i8) (harg1 : arg1.IsWhole)
    (arg6 : Memref sig .tc .vmem S1x1792 .f32) (harg6 : arg6.IsWhole) (arg9 : Memref sig .tc .vmem S1024x128 .f32)
    (x0 : Vec Ideal S1024x1024 .i8) (row : Vec Ideal S1x1024 .f32) (x5 : Vec Ideal S1x1792 .f32)
    (w : ∀ T : ℕ, T < 7 → Vec Ideal S1024x256 .bf16) (W : Fin 1024 → Fin 1792 → EReal)
    (hw : ∀ (T : ℕ) (hT : T < 7) (k : Fin 1024) (l : Fin 256),
      w T hT (ix2 k l) = W k (⟨256 * T + l.val, by omega⟩ : Fin 1792))
    (y : S1024x1792.Idx) :
    View.canon (outPieces (F := Ideal) (lhsLoad arg1 harg1 x0) w (colLoad arg9 row) (csLoad arg6 harg6 x5)) y
      = outVal x0 (fun R => row (ix2 (0 : Fin 1) R)) W x5 (y 0) (y 1) := by
  refine View.canon_apply_of_pieces (S := S1024x1792)
    (fun y => outVal x0 (fun R => row (ix2 (0 : Fin 1) R)) W x5 (y 0) (y 1)) _ ?_ y
    (View.cover_of_tiledL (outPieces (F := Ideal) (lhsLoad arg1 harg1 x0) w (colLoad arg9 row) (csLoad arg6 harg6 x5))
      S1024x256.size (by sl_kernel_rfl) y)
  intro p hp x
  obtain ⟨T, -, rfl⟩ := List.mem_map.mp hp
  have hx : x = ix2 (x 0) (x 1) := by
    funext a
    fin_cases a <;> rfl
  rw [hx]
  refine (tile_value arg1 harg1 arg6 harg6 arg9 x0 row x5 w W hw T.val T.isLt (x 0) (x 1)).trans ?_
  exact (congrArg (fun y : S1024x1792.Idx => outVal x0 (fun R => row (ix2 (0 : Fin 1) R)) W x5 (y 0) (y 1))
    (tile_emb T.val T.isLt (x 0) (x 1))).symm

/-- A tile loaded back from stores that together hold `W`. -/
theorem readCov_weight (arg8 : Memref sig .tc .vmem S1024x1792 .bf16) (L : List (View.Piece (Elt Ideal) S1024x1792 .bf16))
    (W : Fin 1024 → Fin 1792 → EReal) (hL : ∀ y : S1024x1792.Idx, View.canon L y = W (y 0) (y 1))
    (T : ℕ) (hT : T < 7) (k : Fin 1024) (l : Fin 256) :
    arg8.view.readCov L (tileRect T hT).toLoadRect (ix2 k l) = W k (⟨256 * T + l.val, by omega⟩ : Fin 1792) := by
  rw [View.readCov_eq_canon']
  refine (hL _).trans ?_
  exact congrArg (fun y : S1024x1792.Idx => W (y 0) (y 1)) (tile_emb T hT k l)

/-! ### The runs' contents -/

/-- What the first point leaves in the weight scratch. -/
theorem sout_A (c : Dev nD) (i : grid0.Coords) (arg1 : Memref sig .tc .vmem S1024x1024 .i8) (harg1 : arg1.IsWhole) (arg2 : Memref sig .tc .vmem S3x1024 .f32) (harg2 : arg2.IsWhole) (arg3 : Memref sig .tc .vmem S1792x512 .i8) (harg3 : arg3.IsWhole) (arg4 : Memref sig .tc .vmem S1792x16 .i8) (harg4 : arg4.IsWhole) (arg5 : Memref sig .tc .vmem S1792x16 .i8) (harg5 : arg5.IsWhole) (arg6 : Memref sig .tc .vmem S1x1792 .f32) (harg6 : arg6.IsWhole) (arg7 : Memref sig .tc .vmem S1024x1792 .bf16) (harg7 : arg7.IsWhole) (arg8 : Memref sig .tc .vmem S1024x1792 .bf16) (harg8 : arg8.IsWhole) (arg9 : Memref sig .tc .vmem S1024x128 .f32) (harg9 : arg9.IsWhole) (hc0 : cond0_0 i)
    (x0 : Vec Ideal S1024x1024 .i8) (x1 : Vec Ideal S3x1024 .f32) (x2 : Vec Ideal S1792x512 .i8) (x3 : Vec Ideal S1792x16 .i8) (x4 : Vec Ideal S1792x16 .i8) (x5 : Vec Ideal S1x1792 .f32) (y : S1024x1792.Idx) :
    sout0_A_0 (F := Ideal) c i arg1 harg1 arg2 harg2 arg3 harg3 arg4 harg4 arg5 harg5 arg6 harg6 arg7 harg7 arg8 harg8 arg9 harg9 hc0 x0 x1 x2 x3 x4 x5 y
      = wVal x2 x3 x4 (y 0) (y 1) := by
  unfold sout0_A_0
  refine (congrFun (View.read_writes_junk_eq_canon _ _) y).trans ?_
  refine (congrArg (fun L => View.canon L y) (run_pieces c i arg1 harg1 arg2 harg2 arg3 harg3 arg4 harg4 arg5 harg5 arg6 harg6 arg7 harg7 arg8 harg8 arg9 harg9 hc0 x0 x1 x2 x3 x4 x5)).trans ?_
  exact canon_pieces arg3 harg3 arg4 harg4 arg5 harg5 x2 x3 x4 y

/-- The output block's value at a point, with the row of scales the point loads. -/
def blockVal (i : grid0.Coords) (x0 : Vec Ideal S1024x1024 .i8) (x1 : Vec Ideal S3x1024 .f32) (W : Fin 1024 → Fin 1792 → EReal)
    (x5 : Vec Ideal S1x1792 .f32) (y : S1024x1792.Idx) : EReal :=
  outVal x0 (fun R => x1 (ix2 (⟨(i 0).val / 4, by have h : (i 0).val < 12 := (i 0).isLt; omega⟩ : Fin 3) R)) W x5 (y 0) (y 1)

/-- What the first point leaves in the output block. -/
theorem out_A (c : Dev nD) (i : grid0.Coords) (arg1 : Memref sig .tc .vmem S1024x1024 .i8) (harg1 : arg1.IsWhole) (arg2 : Memref sig .tc .vmem S3x1024 .f32) (harg2 : arg2.IsWhole) (arg3 : Memref sig .tc .vmem S1792x512 .i8) (harg3 : arg3.IsWhole) (arg4 : Memref sig .tc .vmem S1792x16 .i8) (harg4 : arg4.IsWhole) (arg5 : Memref sig .tc .vmem S1792x16 .i8) (harg5 : arg5.IsWhole) (arg6 : Memref sig .tc .vmem S1x1792 .f32) (harg6 : arg6.IsWhole) (arg7 : Memref sig .tc .vmem S1024x1792 .bf16) (harg7 : arg7.IsWhole) (arg8 : Memref sig .tc .vmem S1024x1792 .bf16) (harg8 : arg8.IsWhole) (arg9 : Memref sig .tc .vmem S1024x128 .f32) (harg9 : arg9.IsWhole) (hc0 : cond0_0 i)
    (x0 : Vec Ideal S1024x1024 .i8) (x1 : Vec Ideal S3x1024 .f32) (x2 : Vec Ideal S1792x512 .i8) (x3 : Vec Ideal S1792x16 .i8) (x4 : Vec Ideal S1792x16 .i8) (x5 : Vec Ideal S1x1792 .f32) (y : S1024x1792.Idx) :
    out0_A_6 (F := Ideal) c i arg1 harg1 arg2 harg2 arg3 harg3 arg4 harg4 arg5 harg5 arg6 harg6 arg7 harg7 arg8 harg8 arg9 harg9 hc0 x0 x1 x2 x3 x4 x5 y
      = blockVal i x0 x1 (wVal x2 x3 x4) x5 y := by
  unfold out0_A_6
  refine (congrFun (View.read_writes_junk_eq_canon _ _) y).trans ?_
  refine (congrArg (fun L => View.canon L y) (run_out_A c i arg1 harg1 arg2 harg2 arg3 harg3 arg4 harg4 arg5 harg5 arg6 harg6 arg7 harg7 arg8 harg8 arg9 harg9 hc0 x0 x1 x2 x3 x4 x5)).trans ?_
  refine (canon_out arg1 harg1 arg6 harg6 arg9 x0 _ x5 _ (wVal x2 x3 x4) ?_ y).trans ?_
  · exact fun T hT k l => readCov_weight arg8 _ _ (canon_pieces arg3 harg3 arg4 harg4 arg5 harg5 x2 x3 x4) T hT k l
  · unfold blockVal
    simp only [rowLoad_apply]

/-- What a later point leaves in the output block, over the weight scratch it finds. -/
theorem out_B (c : Dev nD) (i : grid0.Coords) (arg1 : Memref sig .tc .vmem S1024x1024 .i8) (harg1 : arg1.IsWhole) (arg2 : Memref sig .tc .vmem S3x1024 .f32) (harg2 : arg2.IsWhole) (arg3 : Memref sig .tc .vmem S1792x512 .i8) (harg3 : arg3.IsWhole) (arg4 : Memref sig .tc .vmem S1792x16 .i8) (harg4 : arg4.IsWhole) (arg5 : Memref sig .tc .vmem S1792x16 .i8) (harg5 : arg5.IsWhole) (arg6 : Memref sig .tc .vmem S1x1792 .f32) (harg6 : arg6.IsWhole) (arg7 : Memref sig .tc .vmem S1024x1792 .bf16) (harg7 : arg7.IsWhole) (arg8 : Memref sig .tc .vmem S1024x1792 .bf16) (harg8 : arg8.IsWhole) (arg9 : Memref sig .tc .vmem S1024x128 .f32) (harg9 : arg9.IsWhole) (hc0 : ¬cond0_0 i)
    (x0 : Vec Ideal S1024x1024 .i8) (x1 : Vec Ideal S3x1024 .f32) (x2 : Vec Ideal S1792x512 .i8) (x3 : Vec Ideal S1792x16 .i8) (x4 : Vec Ideal S1792x16 .i8) (x5 : Vec Ideal S1x1792 .f32) (xs0 : Vec Ideal S1024x1792 .bf16) (y : S1024x1792.Idx) :
    out0_B_6 (F := Ideal) c i arg1 harg1 arg2 harg2 arg3 harg3 arg4 harg4 arg5 harg5 arg6 harg6 arg7 harg7 arg8 harg8 arg9 harg9 hc0 x0 x1 x2 x3 x4 x5 xs0 y
      = blockVal i x0 x1 (fun k n => xs0 (ix2 k n)) x5 y := by
  unfold out0_B_6
  refine (congrFun (View.read_writes_junk_eq_canon _ _) y).trans ?_
  refine (congrArg (fun L => View.canon L y) (run_out_B c i arg1 harg1 arg2 harg2 arg3 harg3 arg4 harg4 arg5 harg5 arg6 harg6 arg7 harg7 arg8 harg8 arg9 harg9 hc0 x0 x1 x2 x3 x4 x5 xs0)).trans ?_
  refine (canon_out arg1 harg1 arg6 harg6 arg9 x0 _ x5 _ (fun k n => xs0 (ix2 k n)) ?_ y).trans ?_
  · intro T hT k l
    rw [View.readAt_eq_ld, harg8.read_unread]
    exact congrArg xs0 (tile_emb T hT k l)
  · unfold blockVal
    simp only [rowLoad_apply]

end Cert.W4

end
-- ==== Proof.Array.lean ====
/-
  The kernel's result array, index by index, in terms of the arguments.
-/
module

public import proofs.«01_k».proof.Proof.Output
public import Idealize.ShloMosaic.Lib.Claim

@[expose] public section

set_option maxRecDepth 16384

noncomputable section

namespace Cert.W4

open Idealize.ShloMosaic Idealize.ShloMosaic.TcCoe Idealize.ShloMosaic.Tactic Cert.KernelIdeal Cert.KernelIdeal.Gen Cert.KernelIdeal.Value

variable (m : (ℓ : Loc nD τ sig) → Buf (Elt Ideal) ℓ) (c : Dev nD)

/-! ### The input blocks -/

/-- The block indices of every window, over the grid. -/
theorem idx0 : ∀ t : Fin cfg0.N, win0_0.index t = ![t.val, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

/-- A grid point is its coordinate. -/
theorem coord : ∀ t : Fin cfg0.N, (grid0.coords t 0).val = t.val := (by decide +kernel : ∀ t : Fin grid0.N, (grid0.coords t 0).val = t.val)

/-- Splitting the flattened row of a `[3, 4096, b]` array into batch and place. -/
theorem rows_apply {α : Type} (x : S3x4096x1024.Idx → α) (q : Fin 12288) (k : Fin 1024) :
    shapeCast S12288x1024 x shapeCasts_S3x4096x1024_S12288x1024 (ix2 q k)
      = x (ix3 (⟨q.val / 4096, by omega⟩ : Fin 3) (⟨q.val % 4096, by omega⟩ : Fin 4096) k) := by
  pointwise

/-- A row of the flattened activations, in its batch. -/
theorem block0 (t : Fin cfg0.N) (ht : t.val < 12) (R k : Fin 1024) :
    (iblk m c 0 t : Vec Ideal S1024x1024 .i8) (ix2 R k)
      = m ((c : Thread nD τ).loc main_arg0)
          (ix3 (⟨t.val / 4, by omega⟩ : Fin 3) (⟨1024 * (t.val % 4) + R.val, by omega⟩ : Fin 4096) k) := by
  unfold iblk
  entry_read
  have he : ((cfg0.win 0).blk t).view.emb (ix2 R k) = (ix2 (⟨1024 * t.val + R.val, by omega⟩ : Fin 12288) k : S12288x1024.Idx) := by
    blk_ext [idx0 t]
  refine (congrArg (shapeCast S12288x1024 (m ((c : Thread nD τ).loc main_arg0)) shapeCasts_S3x4096x1024_S12288x1024) he).trans ?_
  refine (rows_apply _ _ k).trans ?_
  have h1 : (⟨(1024 * t.val + R.val) / 4096, by omega⟩ : Fin 3) = ⟨t.val / 4, by omega⟩ := Fin.ext (by dsimp only; omega)
  have h2 : (⟨(1024 * t.val + R.val) % 4096, by omega⟩ : Fin 4096) = ⟨1024 * (t.val % 4) + R.val, by omega⟩ :=
    Fin.ext (by dsimp only; omega)
  exact congrArg₂ (fun a b => m ((c : Thread nD τ).loc main_arg0) (ix3 a b k)) h1 h2

theorem block1 (t : Fin cfg0.N) (ht : t.val < 12) (b : Fin 3) (R : Fin 1024) :
    (iblk m c 1 t : Vec Ideal S3x1024 .f32) (ix2 b R)
      = m ((c : Thread nD τ).loc main_arg1) (ix2 b (⟨1024 * (t.val % 4) + R.val, by omega⟩ : Fin 4096)) := by
  unfold iblk
  entry_read
  blk_ext [idx1 t]

theorem block2 (t : Fin cfg0.N) (n : Fin 1792) (p : Fin 512) :
    (iblk m c 2 t : Vec Ideal S1792x512 .i8) (ix2 n p) = m ((c : Thread nD τ).loc main_arg2) (ix2 n p) := by
  unfold iblk
  entry_read
  blk_ext [idx2 t]

theorem block3 (t : Fin cfg0.N) (n : Fin 1792) (g : Fin 16) :
    (iblk m c 3 t : Vec Ideal S1792x16 .i8) (ix2 n g) = m ((c : Thread nD τ).loc main_arg3) (ix2 n g) := by
  unfold iblk
  entry_read
  blk_ext [idx3 t]

theorem block4 (t : Fin cfg0.N) (n : Fin 1792) (g : Fin 16) :
    (iblk m c 4 t : Vec Ideal S1792x16 .i8) (ix2 n g) = m ((c : Thread nD τ).loc main_arg4) (ix2 n g) := by
  unfold iblk
  entry_read
  blk_ext [idx4 t]

theorem block5 (t : Fin cfg0.N) (n : Fin 1792) :
    (iblk m c 5 t : Vec Ideal S1x1792 .f32) (ix2 (0 : Fin 1) n) = m ((c : Thread nD τ).loc main_arg5) (ix1 n) := by
  unfold iblk
  entry_read
  have he : ((cfg0.win 5).blk t).view.emb (ix2 (0 : Fin 1) n) = (ix2 (0 : Fin 1) n : S1x1792.Idx) := by
    blk_ext [idx5 t]
  refine (congrArg (shapeCast S1x1792 (m ((c : Thread nD τ).loc main_arg5)) shapeCasts_S1792_S1x1792) he).trans ?_
  pointwise

/-! ### The result -/

/-- The dequantised weight of the arguments. -/
def weight (k : Fin 1024) (n : Fin 1792) : EReal :=
  wVal (m ((c : Thread nD τ).loc main_arg2)) (m ((c : Thread nD τ).loc main_arg3)) (m ((c : Thread nD τ).loc main_arg4)) k n

/-- The weight read from the windows' blocks is that of the arguments. -/
theorem weight_blocks (t : Fin cfg0.N) (k : Fin 1024) (n : Fin 1792) :
    wVal (iblk m c 2 t) (iblk m c 3 t) (iblk m c 4 t) k n = weight m c k n := by
  unfold weight wVal
  rw [block2, block3, block4]

/-- After the first point: the output block's value, and the weight scratch. -/
theorem point_A (t : Fin cfg0.N) (h0 : t.val % 12 = 0) (y : S1024x1792.Idx) :
    (outsAt0 m c t.val t.isLt).1 y = blockVal (grid0.coords t) (iblk m c 0 t) (iblk m c 1 t) (weight m c) (iblk m c 5 t) y
      ∧ (outsAt0 m c t.val t.isLt).2 y = weight m c (y 0) (y 1) := by
  have hw : wVal (iblk m c 2 t) (iblk m c 3 t) (iblk m c 4 t) = weight m c := funext fun k => funext fun n => weight_blocks m c t k n
  have h1 := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0)
      (iblk m c 0 t) (iblk m c 1 t) (iblk m c 2 t) (iblk m c 3 t) (iblk m c 4 t) (iblk m c 5 t) y
  have h2 := sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0)
      (iblk m c 0 t) (iblk m c 1 t) (iblk m c 2 t) (iblk m c 3 t) (iblk m c 4 t) (iblk m c 5 t) y
  rw [hw] at h1 h2
  have e1 := congrArg Prod.fst (outsAt0_A m c t h0)
  have e2 := congrArg Prod.snd (outsAt0_A m c t h0)
  dsimp only at e1 e2
  rw [congrFun e1 y, congrFun e2 y]
  exact ⟨h1, h2⟩

/-- The same after a later point, when the scratch it finds holds the weight. -/
theorem point_B (t : Fin cfg0.N) (h0 : ¬t.val % 12 = 0) (xs0 : Vec Ideal S1024x1792 .bf16)
    (hx : (outsAt0 m c (t.val - 1) (Nat.lt_of_le_of_lt (Nat.sub_le _ _) t.isLt)).2 = xs0)
    (hs : ∀ y, xs0 y = weight m c (y 0) (y 1)) (y : S1024x1792.Idx) :
    (outsAt0 m c t.val t.isLt).1 y = blockVal (grid0.coords t) (iblk m c 0 t) (iblk m c 1 t) (weight m c) (iblk m c 5 t) y
      ∧ (outsAt0 m c t.val t.isLt).2 y = weight m c (y 0) (y 1) := by
  have hw : (fun (k : Fin 1024) (n : Fin 1792) => (xs0 (ix2 k n) : EReal)) = weight m c :=
    funext fun k => funext fun n => hs (ix2 k n)
  have h1 := out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h))
      (iblk m c 0 t) (iblk m c 1 t) (iblk m c 2 t) (iblk m c 3 t) (iblk m c 4 t) (iblk m c 5 t) xs0 y
  rw [hw] at h1
  have e1 := congrArg Prod.fst (outsAt0_B m c t h0)
  have e2 := congrArg Prod.snd (outsAt0_B m c t h0)
  dsimp only [sout0_B_0] at e1 e2
  rw [hx] at e1 e2
  rw [congrFun e1 y, congrFun e2 y]
  exact ⟨h1, hs y⟩

/-- After any point: the output block's value, and the weight scratch. -/
theorem point (n : ℕ) : ∀ (hn : n < cfg0.N) (y : S1024x1792.Idx),
    (outsAt0 m c n hn).1 y
        = blockVal (grid0.coords ⟨n, hn⟩) (iblk m c 0 ⟨n, hn⟩) (iblk m c 1 ⟨n, hn⟩) (weight m c) (iblk m c 5 ⟨n, hn⟩) y
      ∧ (outsAt0 m c n hn).2 y = weight m c (y 0) (y 1) := by
  induction n with
  | zero => exact fun hn y => point_A m c ⟨0, hn⟩ (Nat.zero_mod _) y
  | succ n ih =>
    intro hn y
    have hN : n + 1 < 12 := lt_of_lt_of_eq hn N_0
    exact point_B m c ⟨n + 1, hn⟩ (by dsimp only; omega) _ rfl (fun y => (ih (Nat.lt_of_succ_lt hn) y).2) y

/-- The result at row `R` and column `n`: the row's batch and place select the activations and the row scale. -/
def result (X : S3x4096x1024.Idx → BitVec 8) (xs : S3x4096.Idx → EReal) (cs : S1792.Idx → EReal) (W : Fin 1024 → Fin 1792 → EReal)
    (R : Fin 12288) (n : Fin 1792) : EReal :=
  (∑ k : Fin 1024, (((X (ix3 (⟨R.val / 4096, by omega⟩ : Fin 3) (⟨R.val % 4096, by omega⟩ : Fin 4096) k)).toInt : ℝ) : EReal) * W k n)
    * xs (ix2 (⟨R.val / 4096, by omega⟩ : Fin 3) (⟨R.val % 4096, by omega⟩ : Fin 4096)) * cs (ix1 n)

/-- The kernel's result array at an index. -/
theorem array_apply (R : Fin 12288) (n : Fin 1792) :
    G6 m c (ix2 R n) = result (m ((c : Thread nD τ).loc main_arg0)) (m ((c : Thread nD τ).loc main_arg1))
      (m ((c : Thread nD τ).loc main_arg5)) (weight m c) R n := by
  have hp : pt6Of (ix2 R n) = R.val / 1024 := by
    show 1 * (R.val / 1024 - 0) + 1 * (n.val / 1792 - 0) = R.val / 1024
    omega
  have ht : R.val / 1024 < cfg0.N := lt_of_lt_of_eq (by omega) N_0.symm
  have h12 : R.val / 1024 < 12 := by omega
  unfold G6
  rw [dif_pos (hp ▸ ht)]
  rw [fold0_congr m c _ _ (R.val / 1024) (by rw [Nat.zero_add]; exact ht) hp, ← outsAt0_sweep m c _ ht]
  refine (point m c _ ht _).1.trans ?_
  have hl : loc6Of (ix2 R n) = (ix2 (⟨R.val % 1024, by omega⟩ : Fin 1024) n : S1024x1792.Idx) := by
    funext a
    fin_cases a
    · rfl
    · exact Fin.ext (Nat.mod_eq_of_lt n.isLt)
  rw [hl]
  unfold blockVal outVal result
  have hb : ∀ h, (⟨(grid0.coords ⟨R.val / 1024, ht⟩ 0).val / 4, h⟩ : Fin 3) = ⟨R.val / 4096, by omega⟩ := fun h =>
    Fin.ext ((congrArg (· / 4) (coord ⟨R.val / 1024, ht⟩)).trans (by dsimp only; omega))
  have h1 : (⟨R.val / 1024 / 4, by omega⟩ : Fin 3) = ⟨R.val / 4096, by omega⟩ := Fin.ext (by dsimp only; omega)
  have h2 : (⟨1024 * (R.val / 1024 % 4) + R.val % 1024, by omega⟩ : Fin 4096) = ⟨R.val % 4096, by omega⟩ :=
    Fin.ext (by dsimp only; omega)
  have e0 : ∀ k : Fin 1024, (iblk m c 0 ⟨R.val / 1024, ht⟩ : Vec Ideal S1024x1024 .i8) (ix2 (⟨R.val % 1024, by omega⟩ : Fin 1024) k)
      = m ((c : Thread nD τ).loc main_arg0) (ix3 (⟨R.val / 4096, by omega⟩ : Fin 3) (⟨R.val % 4096, by omega⟩ : Fin 4096) k) := by
    intro k
    rw [← h1, ← h2]
    exact block0 m c ⟨R.val / 1024, ht⟩ h12 _ k
  have e1 : (iblk m c 1 ⟨R.val / 1024, ht⟩ : Vec Ideal S3x1024 .f32) (ix2 (⟨R.val / 4096, by omega⟩ : Fin 3) (⟨R.val % 1024, by omega⟩ : Fin 1024))
      = m ((c : Thread nD τ).loc main_arg1) (ix2 (⟨R.val / 4096, by omega⟩ : Fin 3) (⟨R.val % 4096, by omega⟩ : Fin 4096)) := by
    rw [← h2]
    exact block1 m c ⟨R.val / 1024, ht⟩ h12 _ _
  have e5 := block5 m c ⟨R.val / 1024, ht⟩ n
  show (∑ k : Fin 1024, ((((iblk m c 0 ⟨R.val / 1024, ht⟩ : Vec Ideal S1024x1024 .i8) (ix2 (⟨R.val % 1024, by omega⟩ : Fin 1024) k) : BitVec 8).toInt : ℝ) : EReal) * weight m c k n)
      * (iblk m c 1 ⟨R.val / 1024, ht⟩ : Vec Ideal S3x1024 .f32) (ix2 _ (⟨R.val % 1024, by omega⟩ : Fin 1024))
      * (iblk m c 5 ⟨R.val / 1024, ht⟩ : Vec Ideal S1x1792 .f32) (ix2 (0 : Fin 1) n) = _
  rw [hb, e1, e5]
  simp only [e0]

end Cert.W4

end
-- ==== Proof.Reference.lean ====
/-
  The reference's result array, index by index, in terms of the arguments.
-/
module

public import proofs.«01_k».proof.Proof.Array
public import proofs.«01_k».proof.Proof.Gen.ReferenceIdeal.Run

@[expose] public section

set_option maxRecDepth 16384

noncomputable section

namespace Cert.W4.Ref

open Idealize.ShloMosaic Idealize.ShloMosaic.TcCoe Idealize.ShloMosaic.Tactic Cert.ReferenceIdeal Cert.ReferenceIdeal.Gen

/-- A byte's low code, unpacked in 32 bits. -/
theorem low_code (a : BitVec 8) : (((a.setWidth 32 &&& 15#32).toInt : ℝ) : EReal) = ((nib a 0 : ℝ) : EReal) := by
  have h : ∀ n : Fin 256, (((BitVec.ofNat 8 n.val).setWidth 32 &&& 15#32).toInt) = (nib (BitVec.ofNat 8 n.val) 0 : ℤ) := by
    decide +kernel
  have := h ⟨a.toNat, a.isLt⟩
  rw [← byte_eq a] at this
  rw [this]
  norm_num

/-- A byte's high code, unpacked in 32 bits. -/
theorem high_code (a : BitVec 8) : (((IntOp.shrsi ArithUnit.host (a.setWidth 32) 4#32).toInt : ℝ) : EReal) = ((nib a 1 : ℝ) : EReal) := by
  have h : ∀ n : Fin 256, ((IntOp.shrsi ArithUnit.host ((BitVec.ofNat 8 n.val).setWidth 32) 4#32).toInt) = (nib (BitVec.ofNat 8 n.val) 1 : ℤ) := by
    decide +kernel
  have := h ⟨a.toNat, a.isLt⟩
  rw [← byte_eq a] at this
  rw [this]
  norm_num

/-- A byte read as an unsigned number, through 32 bits. -/
theorem unsigned (a : BitVec 8) : (((a.setWidth 32).toInt : ℝ) : EReal) = ((a.toNat : ℝ) : EReal) := by
  have : (a.setWidth 32).toInt = (a.toNat : ℤ) := by
    have := a.isLt
    rw [BitVec.toInt_eq_toNat_of_lt] <;> simp [BitVec.toNat_setWidth] <;> omega
  rw [this]
  norm_num

/-- A byte read as a signed number, through 32 bits. -/
theorem signed (a : BitVec 8) : (((a.signExtend 32).toInt : ℝ) : EReal) = ((a.toInt : ℝ) : EReal) := by
  rw [BitVec.toInt_signExtend_of_le (by norm_num)]

/-- The reference's dequantised weight, as the program spells it. -/
def refWeight (x2 : Vec Ideal S1792x512 .i8) (x3 x4 : Vec Ideal S1792x16 .i8) : Vec Ideal S1792x1024 .bf16 :=
  shapeCast _ (subf (F := Ideal) (mulf (shapeCast _ (sitofp .bf16 (shapeCast _ (concatenate S1792x512x2 2 [⟨S1792x512x1, (broadcastInDim S1792x512x1 ![0, 1] bcast_S1792x512_S1792x512x1_0_1 (andi (extui 32 x2 natLt_8_32) (broadcastInDim S1792x512 ![] bcast_S_S1792x512 (constantI S_ 32 15#32))))⟩, ⟨S1792x512x1, (broadcastInDim S1792x512x1 ![0, 1] bcast_S1792x512_S1792x512x1_0_1 (Host.shrsi (extui 32 x2 natLt_8_32) (broadcastInDim S1792x512 ![] bcast_S_S1792x512 (constantI S_ 32 4#32))))⟩] concatenates_S1792x512x1_S1792x512x1_S1792x512x2_d2) shapeCasts_S1792x512x2_S1792x1024)) shapeCasts_S1792x1024_S1792x16x64) (broadcastInDim S1792x16x64 ![0, 1, 2] bcast_S1792x16x1_S1792x16x64_0_1_2 (broadcastInDim S1792x16x1 ![0, 1] bcast_S1792x16_S1792x16x1_0_1 (sitofp .bf16 (extui 32 x3 natLt_8_32))))) (broadcastInDim S1792x16x64 ![0, 1, 2] bcast_S1792x16x1_S1792x16x64_0_1_2 (broadcastInDim S1792x16x1 ![0, 1] bcast_S1792x16_S1792x16x1_0_1 (sitofp .bf16 (extui 32 x4 natLt_8_32))))) shapeCasts_S1792x16x64_S1792x1024

/-- The reference's result, over any activations and weight. -/
def refOut (x0 : Vec Ideal S3x4096x1024 .i8) (x1 : Vec Ideal S3x4096 .f32) (w : FVec Ideal S1792x1024 .bf16) (x5 : Vec Ideal S1792 .f32) :
    Vec Ideal S12288x1792 .bf16 :=
  shapeCast _ (truncf (F := Ideal) .bf16 (mulf (mulf (Host.dotGeneral dot_S3x4096x1024_S1792x1024_S3x4096x1792_2_1_01_0_n_n none (sitofp .bf16 (extsi 32 x0 natLt_8_32)) w) (broadcastInDim S3x4096x1792 ![0, 1, 2] bcast_S3x4096x1_S3x4096x1792_0_1_2 (broadcastInDim S3x4096x1 ![0, 1] bcast_S3x4096_S3x4096x1_0_1 x1))) (broadcastInDim S3x4096x1792 ![0, 1, 2] bcast_S1x1x1792_S3x4096x1792_0_1_2 (broadcastInDim S1x1x1792 ![2] bcast_S1792_S1x1x1792_2 x5))) bitsLt_bf16_f32) shapeCasts_S3x4096x1792_S12288x1792

/-- The reference's weight at an index is the dequantised weight. -/
theorem refWeight_apply (x2 : Vec Ideal S1792x512 .i8) (x3 x4 : Vec Ideal S1792x16 .i8) (n : Fin 1792) (k : Fin 1024) :
    refWeight x2 x3 x4 (ix2 n k) = wVal x2 x3 x4 k n := by
  pointwise [refWeight]
  unfold wVal
  rw [← unsigned (x3 _), ← unsigned (x4 _)]
  split
  case isTrue h =>
    rw [show nib (x2 (ix2 n (⟨k.val / 2, by omega⟩ : Fin 512))) (k.val % 2) = nib (x2 (ix2 n (⟨k.val / 2, by omega⟩ : Fin 512))) 0 from
      congrArg _ (by omega), ← low_code]
    rfl
  case isFalse h =>
    rw [show nib (x2 (ix2 n (⟨k.val / 2, by omega⟩ : Fin 512))) (k.val % 2) = nib (x2 (ix2 n (⟨k.val / 2, by omega⟩ : Fin 512))) 1 from
      congrArg _ (by omega), ← high_code]
    rfl

/-- The reference's result at an index. -/
theorem refOut_apply (x0 : Vec Ideal S3x4096x1024 .i8) (x1 : Vec Ideal S3x4096 .f32) (w : FVec Ideal S1792x1024 .bf16) (x5 : Vec Ideal S1792 .f32)
    (R : Fin 12288) (n : Fin 1792) :
    refOut x0 x1 w x5 (ix2 R n) = result x0 x1 x5 (fun k n => w (ix2 n k)) R n := by
  unfold result
  simp only [← signed]
  pointwise [refOut]
  rfl

variable (m : (ℓ : Loc nD τ sig) → Buf (Elt Ideal) ℓ)

/-- The reference's run, its result written with the two functions above. -/
theorem run (ρ : Dev nD → PrngReg) :
    θ_run defs (onTc (τ := τ) (main (F := Ideal))) ⟨m, fun _ => 0, ρ⟩ fun r => ∀ c : Dev nD,
      r.2.mem ((c.tc : Thread nD τ).loc main_v32) = refOut (m ((c.tc : Thread nD τ).loc main_arg0)) (m ((c.tc : Thread nD τ).loc main_arg1))
          (refWeight (m ((c.tc : Thread nD τ).loc main_arg2)) (m ((c.tc : Thread nD τ).loc main_arg3)) (m ((c.tc : Thread nD τ).loc main_arg4)))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run m ρ

/-- The reference's result over the same arguments is the kernel's result array. -/
theorem refOut_eq (m' : (ℓ : Loc Cert.KernelIdeal.nD Cert.KernelIdeal.τ Cert.KernelIdeal.sig) → Buf (Elt Ideal) ℓ) (c : Dev Cert.KernelIdeal.nD)
    (x0 : Vec Ideal S3x4096x1024 .i8) (x1 : Vec Ideal S3x4096 .f32) (x2 : Vec Ideal S1792x512 .i8) (x3 x4 : Vec Ideal S1792x16 .i8)
    (x5 : Vec Ideal S1792 .f32)
    (h0 : x0 = m' ((c : Thread Cert.KernelIdeal.nD Cert.KernelIdeal.τ).loc Cert.KernelIdeal.main_arg0))
    (h1 : x1 = m' ((c : Thread Cert.KernelIdeal.nD Cert.KernelIdeal.τ).loc Cert.KernelIdeal.main_arg1))
    (h2 : x2 = m' ((c : Thread Cert.KernelIdeal.nD Cert.KernelIdeal.τ).loc Cert.KernelIdeal.main_arg2))
    (h3 : x3 = m' ((c : Thread Cert.KernelIdeal.nD Cert.KernelIdeal.τ).loc Cert.KernelIdeal.main_arg3))
    (h4 : x4 = m' ((c : Thread Cert.KernelIdeal.nD Cert.KernelIdeal.τ).loc Cert.KernelIdeal.main_arg4))
    (h5 : x5 = m' ((c : Thread Cert.KernelIdeal.nD Cert.KernelIdeal.τ).loc Cert.KernelIdeal.main_arg5)) :
    refOut x0 x1 (refWeight x2 x3 x4) x5 = Cert.KernelIdeal.Value.G6 m' c := by
  subst h0 h1 h2 h3 h4 h5
  funext i
  obtain ⟨R, n, rfl⟩ : ∃ (R : Fin 12288) (n : Fin 1792), i = ix2 R n := ⟨i 0, i 1, by funext a; fin_cases a <;> rfl⟩
  rw [array_apply, refOut_apply]
  simp only [refWeight_apply]
  rfl

end Cert.W4.Ref

end
-- ==== Proof.lean ====
/-
  The proof of `Cert.Claim`: the three frames, the idealization, and the equality of the kernel's result with the
  reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Reference
public import Idealize.ShloMosaic.Adequacy
public import Idealize.ShloMosaic.Init

@[expose] public section

noncomputable section

namespace Cert.Proof

open Idealize.ShloMosaic Idealize.SL.Sem

/-- The reference terminates, leaves its arguments as they were, and has no semaphores to leave raised. -/
theorem frame_reference : Cert.quiescent_ReferenceIdeal := by
  intro m g _
  exact (θ_run _ _ _).mono (fun r h => ⟨fun c => (h c).2, sem_eq_zero_of_no_sems (by decide) r.2⟩) (Cert.W4.Ref.run m g)

/-- From equal arguments the kernel and the reference end with the same result, element by element. -/
theorem equal_results : Cert.algebraic_KernelIdeal_ReferenceIdeal := by
  intro m g m' g' _ hargs
  refine ⟨fun c => Cert.KernelIdeal.Value.G6 m c, Cert.KernelIdeal.Value.run m g, ?_⟩
  refine (θ_run _ _ _).mono (fun r h c => ⟨(h c).1.trans ?_, (h c).2⟩) (Cert.W4.Ref.run m' g')
  obtain ⟨h0, h1, h2, h3, h4, h5⟩ := hargs c
  exact Cert.W4.Ref.refOut_eq m c _ _ _ _ _ _ h0 h1 h2 h3 h4 h5

/-- The certificate's claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, equal_results⟩

end Cert.Proof

end
